-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "rmin" .f32 0x3DCCCCCD#32 ((1 / 10 : ℝ) : EReal)
  ∧ IdealRules.named_const.Statement Cert.KernelIdeal.κ "log100" .f32 0x40935D8E#32 ((Real.log 100 : ℝ) : EReal)
  ∧ IdealRules.named_const.Statement Cert.KernelIdeal.κ "twopi" .f32 0x40C90FDB#32 ((2 * Real.pi : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2 : Shape := ⟨2, ![1024, 2]⟩
abbrev S1024x64 : Shape := ⟨2, ![1024, 64]⟩
abbrev S3072x64 : Shape := ⟨2, ![3072, 64]⟩
abbrev S64 : Shape := ⟨1, ![64]⟩
abbrev S1024x1 : Shape := ⟨2, ![1024, 1]⟩
abbrev S1024 : Shape := ⟨1, ![1024]⟩
abbrev S1x1024 : Shape := ⟨2, ![1, 1024]⟩
abbrev S1x64 : Shape := ⟨2, ![1, 64]⟩
abbrev S_ : Shape := ⟨0, ![]⟩
abbrev S1024x65 : Shape := ⟨2, ![1024, 65]⟩
abbrev S256x1 : Shape := ⟨2, ![256, 1]⟩
abbrev S256x64 : Shape := ⟨2, ![256, 64]⟩
abbrev S256x1024 : Shape := ⟨2, ![256, 1024]⟩
abbrev S3072x1024 : Shape := ⟨2, ![3072, 1024]⟩
abbrev S3072x65 : Shape := ⟨2, ![3072, 65]⟩
abbrev S256x65 : Shape := ⟨2, ![256, 65]⟩
abbrev S256x3072 : Shape := ⟨2, ![256, 3072]⟩

abbrev nBuf : Space → Nat
  | .hbm => 19
  | .vmem => 11
  | .smem => 0
  | _ => 0

abbrev bufTy : (tb : Table) → Fin (tcTables nBuf tb) → BufTy
  | .hbm, ⟨0, _⟩ => ⟨S1024x2, .f32⟩
  | .hbm, ⟨1, _⟩ => ⟨S1024x64, .f32⟩
  | .hbm, ⟨2, _⟩ => ⟨S3072x64, .f32⟩
  | .hbm, ⟨3, _⟩ => ⟨S64, .f32⟩
  | .hbm, ⟨4, _⟩ => ⟨S1024x1, .f32⟩
  | .hbm, ⟨5, _⟩ => ⟨S1024x1, .f32⟩
  | .hbm, ⟨6, _⟩ => ⟨S1024x1, .f32⟩
  | .hbm, ⟨7, _⟩ => ⟨S1024, .f32⟩
  | .hbm, ⟨8, _⟩ => ⟨S1x1024, .f32⟩
  | .hbm, ⟨9, _⟩ => ⟨S1024x1, .f32⟩
  | .hbm, ⟨10, _⟩ => ⟨S1024, .f32⟩
  | .hbm, ⟨11, _⟩ => ⟨S1x1024, .f32⟩
  | .hbm, ⟨12, _⟩ => ⟨S1x64, .f32⟩
  | .hbm, ⟨13, _⟩ => ⟨S_, .f32⟩
  | .hbm, ⟨14, _⟩ => ⟨S1024x1, .f32⟩
  | .hbm, ⟨15, _⟩ => ⟨S1024x65, .f32⟩
  | .hbm, ⟨16, _⟩ => ⟨S1024x65, .bf16⟩
  | .hbm, ⟨17, _⟩ => ⟨S3072x64, .bf16⟩
  | .hbm, ⟨18, _⟩ => ⟨S1024x64, .f32⟩
  | .local _ .vmem, ⟨0, _⟩ => ⟨S256x1, .f32⟩
  | .local _ .vmem, ⟨1, _⟩ => ⟨S256x1, .f32⟩
  | .local _ .vmem, ⟨2, _⟩ => ⟨S256x1, .f32⟩
  | .local _ .vmem, ⟨3, _⟩ => ⟨S256x1, .f32⟩
  | .local _ .vmem, ⟨4, _⟩ => ⟨S1x1024, .f32⟩
  | .local _ .vmem, ⟨5, _⟩ => ⟨S1x1024, .f32⟩
  | .local _ .vmem, ⟨6, _⟩ => ⟨S1024x65, .bf16⟩
  | .local _ .vmem, ⟨7, _⟩ => ⟨S3072x64, .bf16⟩
  | .local _ .vmem, ⟨8, _⟩ => ⟨S1x64, .f32⟩
  | .local _ .vmem, ⟨9, _⟩ => ⟨S256x64, .f32⟩
  | .local _ .vmem, ⟨10, _⟩ => ⟨S256x64, .f32⟩
  | _, _ => ⟨S1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x65 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log100" => some ((Real.log 100 : ℝ) : EReal)
  | "rmin" => some ((1 / 10 : ℝ) : EReal)
  | "twopi" => some ((2 * Real.pi : ℝ) : EReal)
  | _ => none
-- ==== ReferenceIdeal.lean ====
abbrev S1024x2 : Shape := ⟨2, ![1024, 2]⟩
abbrev S1024x64 : Shape := ⟨2, ![1024, 64]⟩
abbrev S3072x64 : Shape := ⟨2, ![3072, 64]⟩
abbrev S64 : Shape := ⟨1, ![64]⟩
abbrev S_ : Shape := ⟨0, ![]⟩
abbrev S1024x1x2 : Shape := ⟨3, ![1024, 1, 2]⟩
abbrev S1x1024x2 : Shape := ⟨3, ![1, 1024, 2]⟩
abbrev S1024x1024x2 : Shape := ⟨3, ![1024, 1024, 2]⟩
abbrev S1024x1024 : Shape := ⟨2, ![1024, 1024]⟩
abbrev S1024x1 : Shape := ⟨2, ![1024, 1]⟩
abbrev S1024 : Shape := ⟨1, ![1024]⟩
abbrev S1x1024 : Shape := ⟨2, ![1, 1024]⟩
abbrev S1048576 : Shape := ⟨1, ![1048576]⟩
abbrev S1x1024x64 : Shape := ⟨3, ![1, 1024, 64]⟩
abbrev S1024x1024x64 : Shape := ⟨3, ![1024, 1024, 64]⟩
abbrev S1048576x64 : Shape := ⟨2, ![1048576, 64]⟩
abbrev S49153x64 : Shape := ⟨2, ![49153, 64]⟩
abbrev S1048576x1 : Shape := ⟨2, ![1048576, 1]⟩
abbrev S49153 : Shape := ⟨1, ![49153]⟩
abbrev S49152x64 : Shape := ⟨2, ![49152, 64]⟩
abbrev S49152 : Shape := ⟨1, ![49152]⟩
abbrev S49152x1 : Shape := ⟨2, ![49152, 1]⟩
abbrev S1024x3072 : Shape := ⟨2, ![1024, 3072]⟩
abbrev S1x64 : Shape := ⟨2, ![1, 64]⟩

abbrev nBuf : Space → Nat
  | .hbm => 174
  | .vmem => 0
  | .smem => 0
  | _ => 0

abbrev hbmTy0_0 (i : Nat) : BufTy := match i % 128 with
  | 0 => ⟨S1024x2, .f32⟩
  | 1 => ⟨S1024x64, .f32⟩
  | 2 => ⟨S3072x64, .f32⟩
  | 3 => ⟨S64, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S1024x1x2, .f32⟩
  | 15 => ⟨S1x1024x2, .f32⟩
  | 16 => ⟨S1024x1024x2, .f32⟩
  | 17 => ⟨S1024x1024x2, .f32⟩
  | 18 => ⟨S1024x1024x2, .f32⟩
  | 19 => ⟨S1024x1024x2, .f32⟩
  | 20 => ⟨S_, .f32⟩
  | 21 => ⟨S1024x1024, .f32⟩
  | 22 => ⟨S1024x1024, .f32⟩
  | 23 => ⟨S1024x1024, .f32⟩
  | 24 => ⟨S1024x1024, .i1⟩
  | 25 => ⟨S_, .f32⟩
  | 26 => ⟨S1024x1024, .f32⟩
  | 27 => ⟨S_, .f32⟩
  | 28 => ⟨S1024x1024, .f32⟩
  | 29 => ⟨S1024x1024, .f32⟩
  | 30 => ⟨S1024x1024, .f32⟩
  | 31 => ⟨S1024x1024, .f32⟩
  | 32 => ⟨S1024x1024, .f32⟩
  | 33 => ⟨S1024x1024, .f32⟩
  | 34 => ⟨S1024x1024, .f32⟩
  | 35 => ⟨S_, .f32⟩
  | 36 => ⟨S1024x1024, .f32⟩
  | 37 => ⟨S1024x1024, .f32⟩
  | 38 => ⟨S1024x1024, .f32⟩
  | 39 => ⟨S1024x1024, .f32⟩
  | 40 => ⟨S1024x1, .f32⟩
  | 41 => ⟨S1024, .f32⟩
  | 42 => ⟨S1x1024, .f32⟩
  | 43 => ⟨S1024x1, .f32⟩
  | 44 => ⟨S1024, .f32⟩
  | 45 => ⟨S1024x1, .f32⟩
  | 46 => ⟨S1024x1024, .f32⟩
  | 47 => ⟨S1024x1024, .f32⟩
  | 48 => ⟨S1024x1024, .f32⟩
  | 49 => ⟨S1024x1, .f32⟩
  | 50 => ⟨S1024, .f32⟩
  | 51 => ⟨S1x1024, .f32⟩
  | 52 => ⟨S1024x1, .f32⟩
  | 53 => ⟨S1024, .f32⟩
  | 54 => ⟨S1024x1, .f32⟩
  | 55 => ⟨S1024x1024, .f32⟩
  | 56 => ⟨S1024x1024, .f32⟩
  | 57 => ⟨S1024x1024, .f32⟩
  | 58 => ⟨S1024x1024, .f32⟩
  | 59 => ⟨S_, .f32⟩
  | 60 => ⟨S1024x1024, .f32⟩
  | 61 => ⟨S1024x1024, .f32⟩
  | 62 => ⟨S1024x1024, .f32⟩
  | 63 => ⟨S1024x1024, .f32⟩
  | 64 => ⟨S_, .f32⟩
  | 65 => ⟨S1024x1024, .f32⟩
  | 66 => ⟨S1024x1024, .f32⟩
  | 67 => ⟨S1024x1024, .i32⟩
  | 68 => ⟨S_, .f32⟩
  | 69 => ⟨S1024x1024, .f32⟩
  | 70 => ⟨S1024x1024, .i1⟩
  | 71 => ⟨S_, .f32⟩
  | 72 => ⟨S1024x1024, .f32⟩
  | 73 => ⟨S1024x1024, .i1⟩
  | 74 => ⟨S1024x1024, .i1⟩
  | 75 => ⟨S_, .f32⟩
  | 76 => ⟨S_, .i32⟩
  | 77 => ⟨S_, .f32⟩
  | 78 => ⟨S1024x1024, .f32⟩
  | 79 => ⟨S1024x1024, .f32⟩
  | 80 => ⟨S_, .f32⟩
  | 81 => ⟨S1024x1024, .f32⟩
  | 82 => ⟨S1024x1024, .f32⟩
  | 83 => ⟨S1024x1024, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S1024x1024, .i32⟩
  | 91 => ⟨S1024x1024, .i32⟩
  | 92 => ⟨S_, .i32⟩
  | 93 => ⟨S1024x1024, .i32⟩
  | 94 => ⟨S1024x1024, .i1⟩
  | 95 => ⟨S_, .i32⟩
  | 96 => ⟨S1024x1024, .i32⟩
  | 97 => ⟨S1024x1024, .i1⟩
  | 98 => ⟨S_, .i32⟩
  | 99 => ⟨S_, .i1⟩
  | 100 => ⟨S1024x1024, .i1⟩
  | 101 => ⟨S1024x1024, .i1⟩
  | 102 => ⟨S1024x1024, .i1⟩
  | 103 => ⟨S1024x1024, .i32⟩
  | 104 => ⟨S1024x1024, .i32⟩
  | 105 => ⟨S1024x1024, .i32⟩
  | 106 => ⟨S1024, .i32⟩
  | 107 => ⟨S1024x1, .i32⟩
  | 108 => ⟨S_, .i32⟩
  | 109 => ⟨S1024x1, .i32⟩
  | 110 => ⟨S1024x1, .i32⟩
  | 111 => ⟨S_, .i32⟩
  | 112 => ⟨S1024x1024, .i32⟩
  | 113 => ⟨S1024x1024, .i32⟩
  | 114 => ⟨S1024x1024, .i32⟩
  | 115 => ⟨S1024x1024, .i32⟩
  | 116 => ⟨S1024x1024, .i32⟩
  | 117 => ⟨S_, .i32⟩
  | 118 => ⟨S_, .i32⟩
  | 119 => ⟨S1024x1024, .i32⟩
  | 120 => ⟨S1024x1024, .i32⟩
  | 121 => ⟨S1048576, .i32⟩
  | 122 => ⟨S1x1024x64, .f32⟩
  | 123 => ⟨S1024x1024x64, .f32⟩
  | 124 => ⟨S1048576x64, .f32⟩
  | 125 => ⟨S_, .f32⟩
  | 126 => ⟨S49153x64, .f32⟩
  | 127 => ⟨S_, .i32⟩
  | _ => ⟨S1024x2, .f32⟩

abbrev hbmTy0_1 (i : Nat) : BufTy := match i % 128 with
  | 0 => ⟨S1048576, .i32⟩
  | 1 => ⟨S1048576, .i1⟩
  | 2 => ⟨S_, .i32⟩
  | 3 => ⟨S1048576, .i32⟩
  | 4 => ⟨S1048576, .i32⟩
  | 5 => ⟨S1048576, .i32⟩
  | 6 => ⟨S1048576x1, .i32⟩
  | 7 => ⟨S49153x64, .f32⟩
  | 8 => ⟨S_, .f32⟩
  | 9 => ⟨S49153, .f32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S1048576x1, .i32⟩
  | 18 => ⟨S_, .f32⟩
  | 19 => ⟨S1048576, .f32⟩
  | 20 => ⟨S49153, .f32⟩
  | 21 => ⟨S49152x64, .f32⟩
  | 22 => ⟨S49152, .f32⟩
  | 23 => ⟨S49152x1, .f32⟩
  | 24 => ⟨S_, .f32⟩
  | 25 => ⟨S49152x1, .f32⟩
  | 26 => ⟨S49152x1, .i1⟩
  | 27 => ⟨S_, .f32⟩
  | 28 => ⟨S49152, .f32⟩
  | 29 => ⟨S49152, .f32⟩
  | 30 => ⟨S49152x1, .f32⟩
  | 31 => ⟨S49152x64, .f32⟩
  | 32 => ⟨S49152x64, .f32⟩
  | 33 => ⟨S_, .f32⟩
  | 34 => ⟨S_, .f32⟩
  | 35 => ⟨S49152x64, .i1⟩
  | 36 => ⟨S49152x64, .f32⟩
  | 37 => ⟨S49152x64, .f32⟩
  | 38 => ⟨S1024x3072, .f32⟩
  | 39 => ⟨S1024x64, .f32⟩
  | 40 => ⟨S1x64, .f32⟩
  | 41 => ⟨S1024x64, .f32⟩
  | 42 => ⟨S1024x64, .f32⟩
  | 43 => ⟨S_, .f32⟩
  | 44 => ⟨S1024x64, .f32⟩
  | 45 => ⟨S1024x64, .f32⟩
  | _ => ⟨S1024x2, .f32⟩

abbrev hbmTy (i : Nat) : BufTy := match i / 128 with
  | 0 => hbmTy0_0 i
  | 1 => hbmTy0_1 i
  | _ => ⟨S1024x2, .f32⟩

abbrev bufTy : (tb : Table) → Fin (tcTables nBuf tb) → BufTy
  | .hbm, ⟨i, _⟩ => hbmTy i
  | _, _ => ⟨S1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_cst_2 : Ref sig .tc := ⟨.hbm, 9, rfl⟩
abbrev main_cst_3 : Ref sig .tc := ⟨.hbm, 10, rfl⟩
abbrev main_v2 : Ref sig .tc := ⟨.hbm, 11, rfl⟩
abbrev main_cst_4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_c : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v57 : Ref sig .tc := ⟨.hbm, 82, rfl⟩
abbrev main_v58 : Ref sig .tc := ⟨.hbm, 83, rfl⟩
abbrev main_c_14 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_1 : Ref sig .tc := ⟨.hbm, 92, rfl⟩
abbrev main_call2_v5 : Ref sig .tc := ⟨.hbm, 93, rfl⟩
abbrev main_call2_v6 : Ref sig .tc := ⟨.hbm, 94, rfl⟩
abbrev main_call2_c_2 : Ref sig .tc := ⟨.hbm, 95, rfl⟩
abbrev main_call2_v7 : Ref sig .tc := ⟨.hbm, 96, rfl⟩
abbrev main_call2_v8 : Ref sig .tc := ⟨.hbm, 97, rfl⟩
abbrev main_call2_c_3 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_15 : Ref sig .tc := ⟨.hbm, 108, rfl⟩
abbrev main_v62 : Ref sig .tc := ⟨.hbm, 109, rfl⟩
abbrev main_v63 : Ref sig .tc := ⟨.hbm, 110, rfl⟩
abbrev main_c_16 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_17 : Ref sig .tc := ⟨.hbm, 117, rfl⟩
abbrev main_call3_v0 : Ref sig .tc := ⟨.hbm, 118, rfl⟩
abbrev main_call3_v1 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_18 : Ref sig .tc := ⟨.hbm, 125, rfl⟩
abbrev main_v74 : Ref sig .tc := ⟨.hbm, 126, rfl⟩
abbrev main_c_19 : Ref sig .tc := ⟨.hbm, 127, rfl⟩
abbrev main_v75 : Ref sig .tc := ⟨.hbm, 128, rfl⟩
abbrev main_v76 : Ref sig .tc := ⟨.hbm, 129, rfl⟩
abbrev main_c_20 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_21 : Ref sig .tc := ⟨.hbm, 136, rfl⟩
abbrev main_v82 : Ref sig .tc := ⟨.hbm, 137, rfl⟩
abbrev main_c_22 : Ref sig .tc := ⟨.hbm, 138, rfl⟩
abbrev main_v83 : Ref sig .tc := ⟨.hbm, 139, rfl⟩
abbrev main_v84 : Ref sig .tc := ⟨.hbm, 140, rfl⟩
abbrev main_c_23 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_24 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_25 : Ref sig .tc := ⟨.hbm, 152, rfl⟩
abbrev main_v94 : Ref sig .tc := ⟨.hbm, 153, rfl⟩
abbrev main_v95 : Ref sig .tc := ⟨.hbm, 154, rfl⟩
abbrev main_cst_26 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_cst_27 : Ref sig .tc := ⟨.hbm, 161, rfl⟩
abbrev main_call4_v0 : Ref sig .tc := ⟨.hbm, 162, rfl⟩
abbrev main_call4_v1 : Ref sig .tc := ⟨.hbm, 163, rfl⟩
abbrev main_call4_v2 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_call5_cst : Ref sig .tc := ⟨.hbm, 171, rfl⟩
abbrev main_call5_v0 : Ref sig .tc := ⟨.hbm, 172, rfl⟩
abbrev main_v107 : Ref sig .tc := ⟨.hbm, 173, rfl⟩

abbrev nD : Nat := 1
abbrev τ : Topo := Topo.v7x

variable {F : FTy → Type} [FloatOps F]
-- ==== Proof.Block.lean ====
/- What one grid point of the kernel computes, in a few words: twelve 0/1 masks of the cell numbers stacked and multiplied with
   the hidden states, forty-eight slices of the four products turned into means, the means side by side multiplied with the
   weights, plus the bias, cut off at zero. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Pool

open Cert.KernelIdeal Cert.KernelIdeal.Gen Idealize.ShloMosaic

variable {F : FTy → Type} [FloatOps F] [Named F]

/-- The bf16 word of the cell number `k`: the exponent is that of the highest power of two in `k`, the mantissa the rest. -/
def word (k : Nat) : BitVec 16 :=
  BitVec.ofNat 16 (if k = 0 then 0 else (127 + Nat.log2 k) * 128 + (k - 2 ^ Nat.log2 k) * 128 / 2 ^ Nat.log2 k)

/-- The 0/1 mask of the pairs whose cell number is the one that the word `w` denotes. -/
def mask (v : FVec F S256x1024 .bf16) (w : BitVec 16) : FVec F S256x1024 .bf16 :=
  select (cmpf .oeq v (broadcast S256x1024 (Scalar.ofBits .bf16 w)))
    (broadcast S256x1024 (Scalar.ofBits .bf16 0x3F80#16)) (broadcast S256x1024 (Scalar.ofBits .bf16 0x0000#16))

/-- A list of `n` vectors of one shape, as `concatenate` takes it. -/
def pieces {α : Type} (s : Shape) {n : Nat} (f : Fin n → (s.Idx → α)) : List ((r : Shape) × (r.Idx → α)) :=
  List.ofFn fun k : Fin n => (⟨s, f k⟩ : (r : Shape) × (r.Idx → α))

theorem pieces_shapes {α : Type} (s : Shape) {n : Nat} (f : Fin n → (s.Idx → α)) :
    (pieces s f).map (·.1) = List.replicate n s := by
  simp [pieces, List.map_ofFn, Function.comp_def, List.ofFn_const]

/-- Twelve tiles of 256 rows make 3072 rows. -/
theorem stackRows {α : Type} (f : Fin 12 → (S256x1024.Idx → α)) :
    Shape.Concatenates ((pieces S256x1024 f).map (·.1)) S3072x1024 0 := by
  rw [pieces_shapes]; decide

/-- Forty-eight tiles of 64 columns make 3072 columns. -/
theorem sideBySide {α : Type} (f : Fin 48 → (S256x64.Idx → α)) :
    Shape.Concatenates ((pieces S256x64 f).map (·.1)) S256x3072 1 := by
  rw [pieces_shapes]; decide

/-- The product of twelve stacked masks, those of the cells `12 g` to `12 g + 11`, with the hidden states. -/
def sums (v : FVec F S256x1024 .bf16) (h : FVec F S1024x65 .bf16) (g : Fin 4) : FVec F S3072x65 .f32 :=
  matmul dot_S3072x1024_S1024x65_S3072x65_1_0_0_1_n_n none
    (concatenate S3072x1024 0 (pieces S256x1024 fun k : Fin 12 => mask v (word (12 * g.val + k.val))) (stackRows _))
    h (constant S3072x65 .f32 0x00000000#32)

/-- The rows of cell `k` of a product. -/
theorem slices_cell (k : Fin 12) : S3072x65.Slices ![256 * k.val, 0] S256x65 := by
  revert k; decide

/-- The means of one cell: its 256 rows of the product, every row times one over its last entry (the count, at least 1). -/
def mean (s : FVec F S3072x65 .f32) (k : Fin 12) : FVec F S256x64 .bf16 :=
  have r : FVec F S256x65 .f32 := extractStridedSlice S256x65 ![256 * k.val, 0] s (slices_cell k)
  truncf .bf16 (mulf (extractStridedSlice S256x64 ![0, 0] r slices_S256x65_o0_0_S256x64)
    (broadcastTo S256x64
      (divf (broadcast S256x1 (Scalar.ofBits .f32 0x3F800000#32))
        (maximumf (extractStridedSlice S256x1 ![0, 64] r slices_S256x65_o0_64_S256x1)
          (broadcast S256x1 (Scalar.ofBits .f32 0x3F800000#32))))
      broadcasts_S256x1_S256x64)) bitsLt_bf16_f32

/-- The forty-eight tiles of means, from the four products. -/
def means (s : Fin 4 → FVec F S3072x65 .f32) (k : Fin 48) : FVec F S256x64 .bf16 :=
  mean (s ⟨k.val / 12, by omega⟩) ⟨k.val % 12, by omega⟩

/-- The tile that a grid point writes: the means times the weights, plus the bias, cut off at zero. -/
def tile (s : Fin 4 → FVec F S3072x65 .f32) (w : FVec F S3072x64 .bf16) (b : FVec F S1x64 .f32) : FVec F S256x64 .f32 :=
  maximumf (addf (matmul dot_S256x3072_S3072x64_S256x64_1_0_0_1_n_n none
      (concatenate S256x3072 1 (pieces S256x64 (means s)) (sideBySide _)) w (constant S256x64 .f32 0x00000000#32))
    (broadcastTo S256x64 b broadcasts_S1x64_S256x64)) (broadcast S256x64 (Scalar.ofBits .f32 0x00000000#32))

variable (x0 x1 : Vec F S256x1 .f32) (x2 x3 : Vec F S1x1024 .f32) (x4 : Vec F S1024x65 .bf16) (x5 : Vec F S3072x64 .bf16)
  (x6 : Vec F S1x64 .f32)

/-- The cell numbers of a tile's pairs, as the kernel computes them. -/
abbrev cells : FVec F S256x1024 .bf16 := k0_pay129 x0 x1 x2 x3 x4 x5 x6

/-- The first product is that of the first twelve cells. -/
theorem sums0 : k0_pay135 x0 x1 x2 x3 x4 x5 x6 = sums (cells x0 x1 x2 x3 x4 x5 x6) (k0_pay128 x0 x1 x2 x3 x4 x5 x6) 0 := rfl
/-- The second product. -/
theorem sums1 : k0_pay137 x0 x1 x2 x3 x4 x5 x6 = sums (cells x0 x1 x2 x3 x4 x5 x6) (k0_pay128 x0 x1 x2 x3 x4 x5 x6) 1 := rfl
/-- The third product. -/
theorem sums2 : k0_pay151 x0 x1 x2 x3 x4 x5 x6 = sums (cells x0 x1 x2 x3 x4 x5 x6) (k0_pay128 x0 x1 x2 x3 x4 x5 x6) 2 := rfl
/-- The fourth product. -/
theorem sums3 : k0_pay164 x0 x1 x2 x3 x4 x5 x6 = sums (cells x0 x1 x2 x3 x4 x5 x6) (k0_pay128 x0 x1 x2 x3 x4 x5 x6) 3 := rfl

/-- The four products, by the names under which the kernel holds them. -/
def prods (g : Fin 4) : FVec F S3072x65 .f32 :=
  (![k0_pay135 x0 x1 x2 x3 x4 x5 x6, k0_pay137 x0 x1 x2 x3 x4 x5 x6, k0_pay151 x0 x1 x2 x3 x4 x5 x6,
    k0_pay164 x0 x1 x2 x3 x4 x5 x6] : Fin 4 → FVec F S3072x65 .f32) g

/-- They are the products of the masks with the hidden states. -/
theorem prods_eq : prods x0 x1 x2 x3 x4 x5 x6 = sums (cells x0 x1 x2 x3 x4 x5 x6) (k0_pay128 x0 x1 x2 x3 x4 x5 x6) := by
  funext g
  match g with
  | 0 => exact sums0 x0 x1 x2 x3 x4 x5 x6
  | 1 => exact sums1 x0 x1 x2 x3 x4 x5 x6
  | 2 => exact sums2 x0 x1 x2 x3 x4 x5 x6
  | 3 => exact sums3 x0 x1 x2 x3 x4 x5 x6

set_option maxHeartbeats 4000000 in
/-- What a grid point leaves in the result's block is the tile. -/
theorem out_prods : out0_7 x0 x1 x2 x3 x4 x5 x6 = View.canon [⟨r0_5, tile (prods x0 x1 x2 x3 x4 x5 x6)
    (shapeCast S3072x64 (View.ld x5 r0_3) shapeCasts_S3072x64_S3072x64) (shapeCast S1x64 (View.ld x6 r0_4) shapeCasts_S1x64_S1x64)⟩] := by
  unfold out0_7
  refine congrArg (fun q => View.canon [⟨r0_5, q⟩]) ?_
  unfold k0_pay1 k0_pay123 k0_pay124 tile
  dsimp only
  have e : ∀ p q : FVec F S256x3072 .bf16, p = q → ∀ (w : FVec F S3072x64 .bf16) b z u, maximumf (addf (matmul dot_S256x3072_S3072x64_S256x64_1_0_0_1_n_n none p w z) b) u
      = maximumf (addf (matmul dot_S256x3072_S3072x64_S256x64_1_0_0_1_n_n none q w z) b) u := by rintro p _ rfl; intros; rfl
  refine e _ _ ?_ _ _ _ _
  unfold k0_pay122
  refine Idealize.ShloMosaic.StableHlo.concatenate_congr _ _ ?_ _ _
  rfl

end Cert.Pool

end
-- ==== Proof.BlockAt.lean ====
/- The tile of one grid point read at one entry, over the extended reals. -/
module

public import proofs.«01_k».proof.Proof.Block
public import Idealize.ShloMosaic.Lib.Pipeline.Value

@[expose] public section

set_option maxRecDepth 16384

noncomputable section

namespace Cert.Pool

open Cert.KernelIdeal Cert.KernelIdeal.Gen Idealize.ShloMosaic

/-- The word of a cell number denotes that number. -/
theorem word_val (k : Fin 48) : Ideal.ofBits .bf16 (word k.val) = ((k.val : ℝ) : EReal) := by
  fin_cases k <;> simp [word, Ideal.ofBits, Ideal.ieee, Nat.log2] <;> norm_num <;> rw [← EReal.coe_mul] <;> norm_num

/-- A mask at a pair: 1 where the cell number is the asked one, 0 elsewhere. -/
theorem mask_apply (v : FVec Ideal S256x1024 .bf16) (w : BitVec 16) (i : Fin 256) (j : Fin 1024) :
    mask v w (ix2 i j) = if v (ix2 i j) = Ideal.ofBits .bf16 w then (1 : EReal) else 0 := by
  pointwise [mask]

/-- A product at a row of cell `k` of the group: the sum over the pairs of the tile's row, masked. -/
theorem sums_apply (v : FVec Ideal S256x1024 .bf16) (h : FVec Ideal S1024x65 .bf16) (g : Fin 4) (k : Fin 12) (i : Fin 256)
    (c : Fin 65) :
    sums v h g (ix2 ⟨256 * k.val + i.val, by omega⟩ c)
      = ∑ j : Fin 1024, (if v (ix2 i j) = Ideal.ofBits .bf16 (word (12 * g.val + k.val)) then (1 : EReal) else 0) * h (ix2 j c) := by
  unfold sums
  pointwise
  refine Finset.sum_congr rfl fun j _ => ?_
  rw [← mask_apply v]
  refine congrArg (· * h (ix2 j c)) ?_
  exact concatenate_ofFn_apply (t := S3072x1024) (s₁ := S256x1024) 0
    (fun k : Fin 12 => mask v (word (12 * g.val + k.val))) (stackRows _) rfl 256 rfl _ k
    (by show (256 * k.val + i.val) / 256 = k.val; omega) (ix2 i j)
    (by show i.val = (256 * k.val + i.val) % 256; omega)
    (fun b hb => by match b with
      | 0 => exact absurd rfl hb
      | 1 => rfl)

/-- A mean at an entry: the masked sum times one over the count, the count taken as at least 1. -/
theorem mean_apply (s : FVec Ideal S3072x65 .f32) (k : Fin 12) (i : Fin 256) (c : Fin 64) :
    mean s k (ix2 i c) = s (ix2 ⟨256 * k.val + i.val, by omega⟩ ⟨c.val, by omega⟩)
      * Ideal.div 1 (max (s (ix2 ⟨256 * k.val + i.val, by omega⟩ 64)) 1) := by
  pointwise [mean]

/-- The tile at an entry. -/
theorem tile_apply (s : Fin 4 → FVec Ideal S3072x65 .f32) (w : FVec Ideal S3072x64 .bf16) (b : FVec Ideal S1x64 .f32)
    (i : Fin 256) (n : Fin 64) :
    tile s w b (ix2 i n) = max ((∑ f : Fin 3072, means s ⟨f.val / 64, by omega⟩ (ix2 i ⟨f.val % 64, by omega⟩) * w (ix2 f n))
      + b (ix2 0 n)) 0 := by
  unfold tile
  pointwise
  refine congrArg (fun q => max (q + b (ix2 0 n)) 0) ?_
  refine Finset.sum_congr rfl fun f _ => ?_
  refine congrArg (· * w (ix2 f n)) ?_
  exact concatenate_ofFn_apply (t := S256x3072) (s₁ := S256x64) 1 (means s) (sideBySide _) rfl 64 rfl _ ⟨f.val / 64, by omega⟩
    rfl (ix2 i ⟨f.val % 64, by omega⟩) rfl
    (fun b hb => by match b with
      | 0 => rfl
      | 1 => exact absurd rfl hb)

end Cert.Pool

end
-- ==== Proof.Cell.lean ====
module
public import Idealize.ShloMosaic.Lib.Pipeline.ValueKit
public import Idealize.ShloMosaic.Lib.Pointwise
public import Idealize.ShloMosaic.Lib.Routing.Words
public import Mathlib.Analysis.SpecialFunctions.Trigonometric.Arctan
public import Mathlib.Analysis.SpecialFunctions.Log.Basic
@[expose] public section
/-!
# The cell of one pair of points, in the kernel and in the reference

For the offset `(dx, dy)` from one point to another, at distance `r`, both programs compute a ring from `log r`
and a wedge from the angle. The kernel keeps the cell as a number, `8 * ring + wedge`, with `48` for a pair in
no cell; the reference keeps a word, `48 * row + 8 * ring + wedge`, with `49152` for a pair in no cell. The last
theorem of this module says that the two agree, for every offset, infinite ones included.
-/
noncomputable section
namespace Cert.Pool
open Idealize.ShloMosaic

/-- The ring number of a distance, before it is clipped. -/
def ring (r : EReal) : EReal :=
  Ideal.liftRound Int.floor
    (((5 : ℝ) : EReal) * Ideal.div (Ideal.log (Ideal.div r ((1 / 10 : ℝ) : EReal))) ((Real.log 100 : ℝ) : EReal))

/-- The angle of an offset in eighths of a turn, moved up by three. -/
def turn (dx dy : EReal) : EReal :=
  Ideal.div (Ideal.atan2 dy dx * ((8 : ℝ) : EReal)) ((2 * Real.pi : ℝ) : EReal) + ((3 : ℝ) : EReal)

/-- The distance an offset spans. -/
def dist (dx dy : EReal) : EReal := Ideal.sqrt (dx * dx + dy * dy)

/-- The kernel's cell: a number, `48` for no cell. -/
def cellNum (r t : EReal) : EReal :=
  Scalar.select
    (IntOp.andi (BitVec.ofBool (decide (((1 / 10 : ℝ) : EReal) ≤ r))) (BitVec.ofBool (decide (ring r < ((6 : ℝ) : EReal)))))
    (min ((5 : ℝ) : EReal) (max 0 (ring r)) * ((8 : ℝ) : EReal)
      + if t < 0 then Ideal.liftRound Int.ceil t else Ideal.liftRound Int.floor t)
    ((48 : ℝ) : EReal)

/-- The reference's ring: `-1` for a distance under the smallest. -/
def ringRef (r : EReal) : EReal := if r < ((1 / 10 : ℝ) : EReal) then 0 - 1 else ring r

/-- The divisor of the reference's remainder: `8`, after the test for zero. -/
def eight : BitVec 32 := Scalar.select (IntOp.cmpi .eq 8#32 0#32) 1#32 8#32

/-- The reference's remainder by eight: the signed remainder, moved up when its sign is not the divisor's. -/
def modEight (x : BitVec 32) : BitVec 32 :=
  Scalar.select
    (IntOp.andi
      (IntOp.cmpi .ne (IntOp.cmpi .slt (IntOp.remsi .host x eight) 0#32) (IntOp.cmpi .slt eight 0#32))
      (IntOp.cmpi .ne (IntOp.remsi .host x eight) 0#32))
    (IntOp.addi (IntOp.remsi .host x eight) eight)
    (IntOp.remsi .host x eight)

/-- The reference's cell: a word, `49152` for no cell. -/
def cellWord (row : Nat) (r t : EReal) : BitVec 32 :=
  Scalar.select
    (IntOp.andi (BitVec.ofBool (decide (0 ≤ ringRef r))) (BitVec.ofBool (decide (ringRef r < ((6 : ℝ) : EReal)))))
    (IntOp.addi
      (IntOp.addi (IntOp.muli (BitVec.ofNat 32 row) 48#32)
        (IntOp.muli (Ideal.fptosi 32 (min ((5 : ℝ) : EReal) (max 0 (ringRef r)))) 8#32))
      (modEight (Ideal.fptosi 32 t)))
    49152#32

/-- A small number's remainder by eight. -/
theorem modEight_small (w : ℕ) (h : w < 8) : modEight (BitVec.ofNat 32 w) = BitVec.ofNat 32 w := by
  have e : eight = BitVec.ofNat 32 8 := by decide
  unfold modEight
  rw [e, Routing.remsi_word .host (by omega) (by norm_num) (by norm_num), Nat.mod_eq_of_lt h]
  interval_cases w <;> decide

/-- A real number rounded toward zero to a small natural is that natural's word. -/
theorem fptosi_small (x : ℝ) (n : ℕ) (hn : n < 100) (h : (if 0 ≤ x then ⌊x⌋ else ⌈x⌉) = (n : ℤ)) :
    Ideal.fptosi 32 (x : EReal) = BitVec.ofNat 32 n := by
  have e : Ideal.fptosi 32 (x : EReal)
      = BitVec.ofInt 32 (max (-(2 ^ 31 : ℕ)) (min ((2 ^ 31 : ℕ) - 1) (if 0 ≤ x then ⌊x⌋ else ⌈x⌉))) := rfl
  rw [e, h, min_eq_right (by push_cast; omega), max_eq_right (by push_cast; omega)]
  simp

/-- The square of an infinite offset is positive infinity. -/
theorem mul_self_top (x : EReal) (h : x = ⊤ ∨ x = ⊥) : x * x = ⊤ := by
  rcases h with rfl | rfl <;> simp

/-- A square is not negative. -/
theorem mul_self_nonneg' (x : EReal) : 0 ≤ x * x := by
  induction x with
  | bot => simp
  | top => simp
  | coe x => rw [← EReal.coe_mul]; exact_mod_cast mul_self_nonneg x

/-- Only finite offsets span a finite distance. -/
theorem finite_of_dist (dx dy : EReal) (h : dist dx dy ≠ ⊤) : ∃ a b : ℝ, dx = a ∧ dy = b := by
  have hx : dx ≠ ⊤ ∧ dx ≠ ⊥ := by
    by_contra hc
    refine h ?_
    have : dx = ⊤ ∨ dx = ⊥ := by tauto
    rw [dist, mul_self_top dx this, EReal.top_add_of_ne_bot ((bot_lt_iff_ne_bot).1 (lt_of_lt_of_le (by simp) (mul_self_nonneg' dy)))]
    rfl
  have hy : dy ≠ ⊤ ∧ dy ≠ ⊥ := by
    by_contra hc
    refine h ?_
    have : dy = ⊤ ∨ dy = ⊥ := by tauto
    rw [dist, mul_self_top dy this, EReal.add_top_of_ne_bot ((bot_lt_iff_ne_bot).1 (lt_of_lt_of_le (by simp) (mul_self_nonneg' dx)))]
    rfl
  exact ⟨dx.toReal, dy.toReal, (EReal.coe_toReal hx.1 hx.2).symm, (EReal.coe_toReal hy.1 hy.2).symm⟩

/-- Division by a nonzero real number. -/
theorem div_real (x y : ℝ) (h : y ≠ 0) : Ideal.div (x : EReal) (y : EReal) = ((x / y : ℝ) : EReal) := by
  rw [Ideal.div, if_neg (by exact_mod_cast h), ← EReal.coe_inv, ← EReal.coe_mul, div_eq_mul_inv]

/-- The ring of an infinite distance is infinite. -/
theorem ring_top : ring ⊤ = ⊤ := by
  have h1 : Ideal.div ⊤ ((1 / 10 : ℝ) : EReal) = ⊤ := by
    rw [Ideal.div, if_neg (by norm_num), ← EReal.coe_inv, EReal.top_mul_coe_of_pos (by norm_num)]
  have hl : 0 < Real.log 100 := Real.log_pos (by norm_num)
  have h2 : Ideal.div ⊤ ((Real.log 100 : ℝ) : EReal) = ⊤ := by
    rw [Ideal.div, if_neg (by exact_mod_cast hl.ne'), ← EReal.coe_inv, EReal.top_mul_coe_of_pos (by positivity)]
  rw [ring, h1]
  show Ideal.liftRound Int.floor (((5 : ℝ) : EReal) * Ideal.div ⊤ _) = ⊤
  rw [h2, EReal.coe_mul_top_of_pos (by norm_num)]
  rfl

/-- The ring of a finite distance at least the smallest is a natural number. -/
theorem ring_real (x : ℝ) (h : 1 / 10 ≤ x) : ∃ n : ℕ, ring (x : EReal) = ((n : ℝ) : EReal) := by
  have hl : 0 < Real.log 100 := Real.log_pos (by norm_num)
  have hx : ¬ x / (1 / 10) ≤ 0 := by
    have : 0 < x / (1 / 10) := by positivity
    linarith
  have h0 : 0 ≤ 5 * (Real.log (x / (1 / 10)) / Real.log 100) := by
    have : 0 ≤ Real.log (x / (1 / 10)) := Real.log_nonneg (by rw [le_div_iff₀ (by norm_num)]; linarith)
    positivity
  refine ⟨⌊5 * (Real.log (x / (1 / 10)) / Real.log 100)⌋.toNat, ?_⟩
  rw [ring, div_real _ _ (by norm_num)]
  show Ideal.liftRound Int.floor (((5 : ℝ) : EReal) * Ideal.div (if x / (1 / 10) ≤ 0 then ⊥ else ((Real.log (x / (1 / 10)) : ℝ) : EReal)) _) = _
  rw [if_neg hx, div_real _ _ hl.ne', ← EReal.coe_mul]
  show (((⌊5 * (Real.log (x / (1 / 10)) / Real.log 100)⌋ : ℤ) : ℝ) : EReal) = _
  congr 1
  have := Int.toNat_of_nonneg (Int.floor_nonneg.2 h0)
  exact_mod_cast this.symm

/-- The angle of a finite offset lies between minus half a turn, left out, and half a turn. -/
theorem atan2_real (b a : ℝ) : ∃ θ : ℝ, Ideal.atan2 (b : EReal) (a : EReal) = (θ : EReal) ∧ -Real.pi < θ ∧ θ ≤ Real.pi := by
  refine ⟨_, rfl, ?_⟩
  have hp := Real.pi_pos
  have h1 := Real.neg_pi_div_two_lt_arctan (b / a)
  have h2 := Real.arctan_lt_pi_div_two (b / a)
  split_ifs with ha ha' hb hb hb'
  · constructor <;> linarith
  · have h3 : Real.arctan (b / a) ≤ 0 := by
      rw [← Real.arctan_zero]
      exact Real.arctan_strictMono.monotone (div_nonpos_of_nonneg_of_nonpos hb ha'.le)
    constructor <;> linarith
  · have h3 : 0 < Real.arctan (b / a) := by
      rw [← Real.arctan_zero]
      exact Real.arctan_strictMono (div_pos_of_neg_of_neg (not_le.1 hb) ha')
    constructor <;> linarith
  · constructor <;> linarith
  · constructor <;> linarith
  · constructor <;> linarith

/-- The turn of a finite offset is a real number over `-1` and at most `7`. -/
theorem turn_real (a b : ℝ) : ∃ t : ℝ, turn (a : EReal) (b : EReal) = (t : EReal) ∧ -1 < t ∧ t ≤ 7 := by
  obtain ⟨θ, e, h1, h2⟩ := atan2_real b a
  have hp := Real.pi_pos
  refine ⟨θ * 8 / (2 * Real.pi) + 3, ?_, ?_, ?_⟩
  · rw [turn, e, ← EReal.coe_mul, div_real _ _ (by positivity), ← EReal.coe_add]
  · have : -4 < θ * 8 / (2 * Real.pi) := by rw [lt_div_iff₀ (by positivity)]; linarith
    linarith
  · have : θ * 8 / (2 * Real.pi) ≤ 4 := by rw [div_le_iff₀ (by positivity)]; linarith
    linarith

/-- The wedge: a turn rounded toward zero, as a number and as a word. -/
theorem wedge_spec (t : ℝ) (h1 : -1 < t) (h2 : t ≤ 7) : ∃ w : ℕ, w < 8 ∧
    (if (t : EReal) < 0 then Ideal.liftRound Int.ceil (t : EReal) else Ideal.liftRound Int.floor (t : EReal)) = ((w : ℝ) : EReal)
    ∧ Ideal.fptosi 32 (t : EReal) = BitVec.ofNat 32 w := by
  by_cases ht : t < 0
  · have hc : ⌈t⌉ = 0 := by rw [Int.ceil_eq_iff]; constructor <;> push_cast <;> linarith
    refine ⟨0, by norm_num, ?_, fptosi_small t 0 (by norm_num) (by rw [if_neg (not_le.2 ht), hc]; rfl)⟩
    rw [if_pos (by exact_mod_cast ht)]
    show (((⌈t⌉ : ℤ) : ℝ) : EReal) = _
    rw [hc]; norm_num
  · have h0 : 0 ≤ ⌊t⌋ := Int.floor_nonneg.2 (not_lt.1 ht)
    have h8 : ⌊t⌋ < 8 := Int.floor_lt.2 (by push_cast; linarith)
    have e := Int.toNat_of_nonneg h0
    refine ⟨⌊t⌋.toNat, by omega, ?_, fptosi_small t _ (by omega) (by rw [if_pos (not_lt.1 ht), e])⟩
    rw [if_neg (by exact_mod_cast ht)]
    show (((⌊t⌋ : ℤ) : ℝ) : EReal) = _
    congr 1
    exact_mod_cast e.symm

/-- A pair in no cell: the kernel's number and the reference's word for that. -/
def NoCell (r t : EReal) : Prop := cellNum r t = ((48 : ℝ) : EReal) ∧ ∀ row, cellWord row r t = 49152#32

/-- A pair in cell `k`: the kernel's number and the reference's word for that. -/
def InCell (r t : EReal) (k : ℕ) : Prop :=
  cellNum r t = ((k : ℝ) : EReal) ∧ ∀ row, cellWord row r t = BitVec.ofNat 32 (row * 48 + k)

/-- For a ring number `n` and a wedge number `w`, the pair is in cell `8 * n + w`. -/
theorem inCell_of (r t : EReal) (n w : ℕ) (hr : ((1 / 10 : ℝ) : EReal) ≤ r) (hn : ring r = ((n : ℝ) : EReal)) (h6 : n < 6)
    (hw : w < 8)
    (h1 : (if t < 0 then Ideal.liftRound Int.ceil t else Ideal.liftRound Int.floor t) = ((w : ℝ) : EReal))
    (h2 : Ideal.fptosi 32 t = BitVec.ofNat 32 w) : InCell r t (n * 8 + w) := by
  have hn0 : (0 : EReal) ≤ ((n : ℝ) : EReal) := by exact_mod_cast Nat.cast_nonneg n
  have hn6 : ((n : ℝ) : EReal) < ((6 : ℝ) : EReal) := by exact_mod_cast (by exact_mod_cast h6 : (n : ℝ) < 6)
  have hn5 : ((n : ℝ) : EReal) ≤ ((5 : ℝ) : EReal) := by
    exact_mod_cast (by exact_mod_cast (by omega : n ≤ 5) : (n : ℝ) ≤ 5)
  have hR : ringRef r = ((n : ℝ) : EReal) := by rw [ringRef, if_neg (not_lt.2 hr), hn]
  have hf : Ideal.fptosi 32 ((n : ℝ) : EReal) = BitVec.ofNat 32 n :=
    fptosi_small n n (by omega) (by rw [if_pos (Nat.cast_nonneg n), Int.floor_natCast])
  constructor
  · rw [cellNum, hn, h1, max_eq_right hn0, min_eq_right hn5, decide_eq_true hr, decide_eq_true hn6]
    show _ * _ + _ = _
    rw [← EReal.coe_mul, ← EReal.coe_add]
    push_cast; rfl
  · intro row
    rw [cellWord, hR, max_eq_right hn0, min_eq_right hn5, hf, h2, modEight_small w hw, decide_eq_true hn0, decide_eq_true hn6]
    show BitVec.ofNat 32 row * BitVec.ofNat 32 48 + BitVec.ofNat 32 n * BitVec.ofNat 32 8 + BitVec.ofNat 32 w = _
    rw [← BitVec.ofNat_mul, ← BitVec.ofNat_mul, ← BitVec.ofNat_add, ← BitVec.ofNat_add, add_assoc]

/-- A distance under the smallest, or a ring of six or more, is in no cell. -/
theorem noCell_of (r t : EReal) (h : r < ((1 / 10 : ℝ) : EReal) ∨ ¬ ring r < ((6 : ℝ) : EReal)) : NoCell r t := by
  by_cases hr : r < ((1 / 10 : ℝ) : EReal)
  · have hR : ¬ (0 : EReal) ≤ ringRef r := by
      rw [ringRef, if_pos hr]
      rw [not_le, show (0 : EReal) - 1 = ((-1 : ℝ) : EReal) by rw [zero_sub]; rfl]
      exact_mod_cast (by norm_num : (-1 : ℝ) < 0)
    constructor
    · rw [cellNum, decide_eq_false (not_le.2 hr)]
      generalize BitVec.ofBool (decide (ring r < ((6 : ℝ) : EReal))) = z
      have : IntOp.andi (BitVec.ofBool false) z = 0#1 := by revert z; decide
      rw [this]; rfl
    · intro row
      rw [cellWord, decide_eq_false hR]
      generalize BitVec.ofBool (decide (ringRef r < ((6 : ℝ) : EReal))) = z
      have : IntOp.andi (BitVec.ofBool false) z = 0#1 := by revert z; decide
      rw [this]; rfl
  · have h6 : ¬ ring r < ((6 : ℝ) : EReal) := by tauto
    constructor
    · rw [cellNum, decide_eq_false h6]
      generalize BitVec.ofBool (decide (((1 / 10 : ℝ) : EReal) ≤ r)) = z
      have : IntOp.andi z (BitVec.ofBool false) = 0#1 := by revert z; decide
      rw [this]; rfl
    · intro row
      rw [cellWord, ringRef, if_neg hr, decide_eq_false h6]
      generalize BitVec.ofBool (decide (0 ≤ ring r)) = z
      have : IntOp.andi z (BitVec.ofBool false) = 0#1 := by revert z; decide
      rw [this]; rfl

/-- Every offset is in no cell, or in one of the forty-eight, for the kernel and the reference alike. -/
theorem cell_spec (dx dy : EReal) :
    NoCell (dist dx dy) (turn dx dy) ∨ ∃ k < 48, InCell (dist dx dy) (turn dx dy) k := by
  by_cases hr : ((1 / 10 : ℝ) : EReal) ≤ dist dx dy
  swap
  · exact Or.inl (noCell_of _ _ (Or.inl (not_le.1 hr)))
  by_cases h6 : ring (dist dx dy) < ((6 : ℝ) : EReal)
  swap
  · exact Or.inl (noCell_of _ _ (Or.inr h6))
  right
  have ht : dist dx dy ≠ ⊤ := fun e => by rw [e, ring_top] at h6; exact not_top_lt h6
  obtain ⟨a, b, rfl, rfl⟩ := finite_of_dist dx dy ht
  obtain ⟨x, hx⟩ : ∃ x : ℝ, dist (a : EReal) (b : EReal) = (x : EReal) :=
    ⟨_, (EReal.coe_toReal ht (fun e => by rw [e] at hr; simp at hr)).symm⟩
  obtain ⟨n, hn⟩ := ring_real x (by rw [hx] at hr; exact_mod_cast hr)
  obtain ⟨t, e, h1, h2⟩ := turn_real a b
  obtain ⟨w, hw, f1, f2⟩ := wedge_spec t h1 h2
  have hn6 : n < 6 := by
    rw [hx, hn] at h6
    have : (n : ℝ) < 6 := by exact_mod_cast h6
    exact_mod_cast this
  exact ⟨n * 8 + w, by omega, inCell_of _ _ n w hr (hx ▸ hn) hn6 hw (e ▸ f1) (e ▸ f2)⟩

end Cert.Pool
end
-- ==== Proof.CellAt.lean ====
module
public import proofs.«01_k».proof.Proof.Cell
public import proofs.«01_k».proof.Proof.Gen.KernelIdeal.Frame
public import proofs.«01_k».proof.Proof.Gen.ReferenceIdeal.Run
public import Idealize.ShloMosaic.Lib.Tactic.CleanTypes
@[expose] public section
set_option maxRecDepth 16384
/-!
# The two programs' cells are the cells of the module `Cell`

The kernel's cell of a pair of points, as a value of its coordinate blocks, and the reference's, as a value of its
coordinate array.
-/
noncomputable section
namespace Cert.Pool
open Idealize.ShloMosaic

/-- The number three. -/
theorem lit3 : Ideal.ofBits .f32 1077936128#32 = ((3 : ℝ) : EReal) := by
  simp [Ideal.ofBits, Ideal.ieee, -EReal.coe_mul]; norm_num
/-- The number five. -/
theorem lit5 : Ideal.ofBits .f32 1084227584#32 = ((5 : ℝ) : EReal) := by
  simp [Ideal.ofBits, Ideal.ieee, -EReal.coe_mul]; norm_num
/-- The number six. -/
theorem lit6 : Ideal.ofBits .f32 1086324736#32 = ((6 : ℝ) : EReal) := by
  simp [Ideal.ofBits, Ideal.ieee, -EReal.coe_mul]; norm_num
/-- The number eight. -/
theorem lit8 : Ideal.ofBits .f32 1090519040#32 = ((8 : ℝ) : EReal) := by
  simp [Ideal.ofBits, Ideal.ieee, -EReal.coe_mul]; norm_num
/-- The number forty-eight. -/
theorem lit48 : Ideal.ofBits .f32 1111490560#32 = ((48 : ℝ) : EReal) := by
  simp [Ideal.ofBits, Ideal.ieee, -EReal.coe_mul]; norm_num
/-- The reference's smallest distance, one divided by ten, is one tenth. -/
theorem tenth : Ideal.div 1 (Ideal.ofBits .f32 1092616192#32) = ((1 / 10 : ℝ) : EReal) := by
  have h : Ideal.ofBits .f32 1092616192#32 = ((10 : ℝ) : EReal) := by
    simp [Ideal.ofBits, Ideal.ieee, -EReal.coe_mul]; norm_num
  rw [h]; exact div_real 1 10 (by norm_num)
/-- The reference's logarithm of one hundred. -/
theorem logHundred : Ideal.log (Ideal.ofBits .f32 1120403456#32) = ((Real.log 100 : ℝ) : EReal) := by
  have h : Ideal.ofBits .f32 1120403456#32 = ((100 : ℝ) : EReal) := by
    simp [Ideal.ofBits, Ideal.ieee, -EReal.coe_mul]; norm_num
  rw [h, Ideal.log_coe, if_neg (by norm_num)]
/-- The reference's whole turn, twice the angle of the direction opposite to the first axis. -/
theorem wholeTurn : Ideal.ofBits .f32 1073741824#32 * Ideal.atan2 0 (Ideal.ofBits .f32 3212836864#32)
    = ((2 * Real.pi : ℝ) : EReal) := by
  have h : Ideal.ofBits .f32 3212836864#32 = ((-1 : ℝ) : EReal) := by
    simp [Ideal.ofBits, Ideal.ieee, -EReal.coe_mul, -EReal.coe_neg]; norm_num
  have h2 : Ideal.ofBits .f32 1073741824#32 = ((2 : ℝ) : EReal) := by
    simp [Ideal.ofBits, Ideal.ieee, -EReal.coe_mul]; norm_num
  have h3 : Ideal.atan2 0 ((-1 : ℝ) : EReal) = ((Real.pi : ℝ) : EReal) := by
    show Ideal.atan2 ((0 : ℝ) : EReal) ((-1 : ℝ) : EReal) = _
    refine congrArg Real.toEReal ?_
    norm_num
  rw [h, h2, h3, EReal.coe_mul]

section Kernel
open Cert.KernelIdeal Cert.KernelIdeal.Gen
variable (x0 x1 : Vec Ideal S256x1 .f32) (x2 x3 : Vec Ideal S1x1024 .f32) (x4 : Vec Ideal S1024x65 .bf16)
  (x5 : Vec Ideal S3072x64 .bf16) (x6 : Vec Ideal S1x64 .f32)

/-- The kernel's cell of row `i` of its block and point `j`. -/
theorem kernel_cell (i : Fin 256) (j : Fin 1024) :
    k0_pay129 x0 x1 x2 x3 x4 x5 x6 (ix2 i j)
      = cellNum (dist (x2 (ix2 0 j) - x0 (ix2 i 0)) (x3 (ix2 0 j) - x1 (ix2 i 0)))
          (turn (x2 (ix2 0 j) - x0 (ix2 i 0)) (x3 (ix2 0 j) - x1 (ix2 i 0))) := by
  have e5 : (((((5#32 : BitVec 32).toInt : ℤ) : ℝ)) : EReal) = ((5 : ℝ) : EReal) := by
    rw [show (5#32 : BitVec 32).toInt = 5 by decide]; norm_num
  unfold k0_pay129 k0_pay125 k0_pay126 k0_pay127
  pointwise [k0_pay10, k0_pay6, k0_pay7, k0_pay8, k0_pay5, k0_pay4, k0_pay3, k0_pay2]
  rw [lit5, lit6, lit8, lit3, lit48, e5]
  rfl
end Kernel

section Reference
open Cert.ReferenceIdeal Cert.ReferenceIdeal.Value
variable (V : Valuation τ sig (Elt Ideal))

/-- The reference's points. -/
abbrev pts : Vec Ideal S1024x2 .f32 := V (Proc.tc.devRef main_arg0)

/-- Coordinate `x` of point `j` as seen from point `i`. -/
def off (p : Vec Ideal S1024x2 .f32) (i j : Fin 1024) (x : Fin 2) : EReal := p (ix2 j x) - p (ix2 i x)

/-- The square of a difference does not depend on its sense. -/
theorem sq_comm (a b : EReal) : (a - b) * (a - b) = (b - a) * (b - a) := by
  induction a <;> induction b <;> simp [← EReal.coe_sub, ← EReal.coe_mul]
  ring

/-- The reference's word of the pair at flat position `e`: row `e / 1024`, column `e % 1024`. -/
theorem reference_cell (e : Fin 1048576) :
    res_main_v70 V (ix1 e)
      = cellWord (e.val / 1024)
          (dist (off (pts V) ⟨e.val / 1024, by omega⟩ ⟨e.val % 1024, by omega⟩ 0)
            (off (pts V) ⟨e.val / 1024, by omega⟩ ⟨e.val % 1024, by omega⟩ 1))
          (turn (off (pts V) ⟨e.val / 1024, by omega⟩ ⟨e.val % 1024, by omega⟩ 0)
            (off (pts V) ⟨e.val / 1024, by omega⟩ ⟨e.val % 1024, by omega⟩ 1)) := by
  have e5 : FloatOps.sitofp (F := Ideal) FTy.f32 5#32 = ((5 : ℝ) : EReal) := by
    show (((((5#32 : BitVec 32).toInt : ℤ) : ℝ)) : EReal) = _
    rw [show (5#32 : BitVec 32).toInt = 5 by decide]; norm_num
  have e0 : (id (constant (F := Ideal) S_ FTy.f32 0#32) ix0 : EReal) = 0 := by
    show Ideal.ofBits .f32 0#32 = 0
    simp
  unfold res_main_v70 res_main_call2_v4 res_main_call2_v2 res_main_call2_v0 res_main_v25 res_main_v11 res_main_v8 res_main_v0
  clean_types
  pointwise
  simp only [Fin.sum_univ_two, wholeTurn, tenth, logHundred, lit5, lit6, lit8, lit3, e5, e0,
    sq_comm (pts V (ix2 ⟨e.val / 1024, by omega⟩ 0)), sq_comm (pts V (ix2 ⟨e.val / 1024, by omega⟩ 1))]
  rfl
end Reference
end Cert.Pool
end
-- ==== Proof.Entry.lean ====
module
public import proofs.«01_k».proof.Proof.Gen.KernelIdeal.Frame
public import Idealize.ShloMosaic.Lib.Pipeline.ValueKit
public import Idealize.ShloMosaic.Lib.StableHlo.ReadAt
public import Idealize.ShloMosaic.Lib.IdealHost
@[expose] public section
set_option maxRecDepth 16384
/-!
# What a grid point of the kernel reads

The blocks that grid point `t` stages, element by element, in terms of the four arguments of the call.
-/
noncomputable section
namespace Cert.Pool
open Cert.KernelIdeal Cert.KernelIdeal.Gen Idealize.ShloMosaic Idealize.ShloMosaic.TcCoe
variable (m : (ℓ : Loc nD τ sig) → Buf (Elt Ideal) ℓ) (c : Dev nD)

/-- The points. -/
abbrev argP : Vec Ideal S1024x2 .f32 := m ((c : Thread nD τ).loc main_arg0)
/-- The hidden states. -/
abbrev argH : Vec Ideal S1024x64 .f32 := m ((c : Thread nD τ).loc main_arg1)
/-- The weights. -/
abbrev argW : Vec Ideal S3072x64 .f32 := m ((c : Thread nD τ).loc main_arg2)
/-- The bias. -/
abbrev argB : Vec Ideal S64 .f32 := m ((c : Thread nD τ).loc main_arg3)

/-- Which block each window stages at a grid point. -/
theorem idx : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] := by decide +kernel

/-- Row `i` of grid point `t`'s tile, among all the rows. -/
def row (t : Fin grid0.N) (i : Fin 256) : Fin 1024 := ⟨256 * t.val + i.val, by have h := t.isLt; have := N_0; omega⟩

/-- The first coordinates, as a column. -/
theorem entry_x (i : Fin 1024) : V m c main_v0 (ix2 i (0 : Fin 1)) = argP m c (ix2 i 0) := by
  unfold V; after_reads_at
/-- The second coordinates, as a column. -/
theorem entry_y (i : Fin 1024) : V m c main_v1 (ix2 i (0 : Fin 1)) = argP m c (ix2 i 1) := by
  unfold V; after_reads_at
/-- The first coordinates, as a row. -/
theorem entry_xr (j : Fin 1024) : V m c main_v4 (ix2 (0 : Fin 1) j) = argP m c (ix2 j 0) := by
  unfold V; after_reads_at
/-- The second coordinates, as a row. -/
theorem entry_yr (j : Fin 1024) : V m c main_v7 (ix2 (0 : Fin 1) j) = argP m c (ix2 j 1) := by
  unfold V; after_reads_at
/-- The bias, as a row. -/
theorem entry_b (n : Fin 64) : V m c main_v8 (ix2 (0 : Fin 1) n) = argB m c (ix1 n) := by
  unfold V; after_reads_at
/-- The weights. -/
theorem entry_w (f : Fin 3072) (n : Fin 64) : V m c main_v12 (ix2 f n) = argW m c (ix2 f n) := by
  unfold V; after_reads_at
/-- The hidden states with a column of ones behind them. -/
theorem entry_h (j : Fin 1024) (k : Fin 65) :
    V m c main_v11 (ix2 j k) = if h : k.val < 64 then argH m c (ix2 j ⟨k.val, h⟩) else (1 : EReal) := by
  unfold V; after_reads_at
  refine dite_congr rfl (fun h => ?_) (fun h => ?_)
  · after_reads_at
  · after_reads_at

variable (t : Fin grid0.N)

/-- The staged column of first coordinates. -/
theorem blk_x (i : Fin 256) : iblk m c 0 t (ix2 i 0) = argP m c (ix2 (row t i) 0) := by
  rw [← entry_x]; unfold row; blk_ext [iblk, idx t]
/-- The staged column of second coordinates. -/
theorem blk_y (i : Fin 256) : iblk m c 1 t (ix2 i 0) = argP m c (ix2 (row t i) 1) := by
  rw [← entry_y]; unfold row; blk_ext [iblk, idx t]
/-- The staged row of first coordinates. -/
theorem blk_xr (j : Fin 1024) : iblk m c 2 t (ix2 0 j) = argP m c (ix2 j 0) := by
  rw [← entry_xr]; blk_ext [iblk, idx t]
/-- The staged row of second coordinates. -/
theorem blk_yr (j : Fin 1024) : iblk m c 3 t (ix2 0 j) = argP m c (ix2 j 1) := by
  rw [← entry_yr]; blk_ext [iblk, idx t]
/-- The staged hidden states. -/
theorem blk_h (j : Fin 1024) (k : Fin 65) :
    iblk m c 4 t (ix2 j k) = if h : k.val < 64 then argH m c (ix2 j ⟨k.val, h⟩) else (1 : EReal) := by
  rw [← entry_h]; blk_ext [iblk, idx t]
/-- The staged weights. -/
theorem blk_w (f : Fin 3072) (n : Fin 64) : iblk m c 5 t (ix2 f n) = argW m c (ix2 f n) := by
  rw [← entry_w]; blk_ext [iblk, idx t]
/-- The staged bias. -/
theorem blk_b (n : Fin 64) : iblk m c 6 t (ix2 0 n) = argB m c (ix1 n) := by
  rw [← entry_b]; blk_ext [iblk, idx t]

end Cert.Pool
end
-- ==== Proof.Pooled.lean ====
module
public import proofs.«01_k».proof.Proof.Cell
@[expose] public section
/-!
# The pooled layer, as one function of the four arguments

Every point looks at the others, sorts them into forty-eight cells, takes the mean of the hidden states in each cell, and
sends the forty-eight means through one dense layer. The kernel multiplies each sum by one over its count; the reference
divides, and puts zero where the count is zero. The last theorem of this module says that the two are the same.
-/
noncomputable section
namespace Cert.Pool
open Idealize.ShloMosaic

variable (P : Fin 1024 → Fin 2 → EReal) (H : Fin 1024 → Fin 64 → EReal) (W : Fin 3072 → Fin 64 → EReal) (B : Fin 64 → EReal)

/-- The distance from point `i` to point `j`. -/
def far (i j : Fin 1024) : EReal := dist (P j 0 - P i 0) (P j 1 - P i 1)

/-- The direction from point `i` to point `j`. -/
def dir (i j : Fin 1024) : EReal := turn (P j 0 - P i 0) (P j 1 - P i 1)

/-- One where point `j` lies in cell `k` of point `i`, zero elsewhere. -/
def hit (i : Fin 1024) (k : Fin 48) (j : Fin 1024) : EReal :=
  if cellNum (far P i j) (dir P i j) = ((k.val : ℝ) : EReal) then 1 else 0

/-- How many points lie in cell `k` of point `i`. -/
def count (i : Fin 1024) (k : Fin 48) : EReal := ∑ j : Fin 1024, hit P i k j

/-- The sum of one component of the hidden states over the points in cell `k` of point `i`. -/
def total (i : Fin 1024) (k : Fin 48) (d : Fin 64) : EReal := ∑ j : Fin 1024, hit P i k j * H j d

/-- The mean as the kernel takes it. -/
def meanMul (i : Fin 1024) (k : Fin 48) (d : Fin 64) : EReal := total P H i k d * Ideal.div 1 (max (count P i k) 1)

/-- The mean as the reference takes it. -/
def meanDiv (i : Fin 1024) (k : Fin 48) (d : Fin 64) : EReal :=
  if 0 < count P i k then Ideal.div (total P H i k d) (max (count P i k) 1) else 0

/-- The dense layer over the forty-eight means of a point. -/
def layer (M : Fin 1024 → Fin 48 → Fin 64 → EReal) (i : Fin 1024) (n : Fin 64) : EReal :=
  max ((∑ f : Fin 3072, M i ⟨f.val / 64, by omega⟩ ⟨f.val % 64, by omega⟩ * W f n) + B n) 0

/-- An indicator is not negative. -/
theorem hit_nonneg (i : Fin 1024) (k : Fin 48) (j : Fin 1024) : 0 ≤ hit P i k j := by
  unfold hit; split_ifs <;> simp

/-- Where no point lies in the cell, the sum is zero. -/
theorem total_empty (i : Fin 1024) (k : Fin 48) (d : Fin 64) (h : ¬ 0 < count P i k) : total P H i k d = 0 := by
  have h0 : ∑ j : Fin 1024, hit P i k j = 0 :=
    le_antisymm (not_lt.1 h) (Finset.sum_nonneg fun j _ => hit_nonneg P i k j)
  have hz := (Finset.sum_eq_zero_iff_of_nonneg fun j _ => hit_nonneg P i k j).1 h0
  refine Finset.sum_eq_zero fun j hj => ?_
  rw [hz j hj, zero_mul]

/-- The two means are the same. -/
theorem mean_same (i : Fin 1024) (k : Fin 48) (d : Fin 64) : meanMul P H i k d = meanDiv P H i k d := by
  unfold meanMul meanDiv
  split_ifs with h
  · have hm : max (count P i k) 1 ≠ 0 := (lt_of_lt_of_le zero_lt_one (le_max_right _ _)).ne'
    rw [Ideal.div, if_neg hm, Ideal.div, if_neg hm, one_mul]
  · rw [total_empty P H i k d h, zero_mul]

end Cert.Pool
end
-- ==== Proof.KernelArray.lean ====
module
public import proofs.«01_k».proof.Proof.BlockAt
public import proofs.«01_k».proof.Proof.CellAt
public import proofs.«01_k».proof.Proof.Entry
public import proofs.«01_k».proof.Proof.Pooled
@[expose] public section
set_option maxRecDepth 16384
/-!
# The kernel's result array after the run

Each grid point writes 256 rows of the result; the four together are the dense layer over the means of every point.
-/
noncomputable section
namespace Cert.Pool
open Cert.KernelIdeal Cert.KernelIdeal.Gen Idealize.ShloMosaic Idealize.ShloMosaic.TcCoe
variable (m : (ℓ : Loc nD τ sig) → Buf (Elt Ideal) ℓ) (c : Dev nD)

/-- The points, by row and coordinate. -/
def kP (i : Fin 1024) (x : Fin 2) : EReal := argP m c (ix2 i x)
/-- The hidden states, by row and component. -/
def kH (i : Fin 1024) (d : Fin 64) : EReal := argH m c (ix2 i d)
/-- The weights. -/
def kW (f : Fin 3072) (n : Fin 64) : EReal := argW m c (ix2 f n)
/-- The bias. -/
def kB (n : Fin 64) : EReal := argB m c (ix1 n)

variable (t : Fin grid0.N)

/-- The cell of row `i` of the tile and point `j`. -/
theorem tile_cell (i : Fin 256) (j : Fin 1024) :
    cells (iblk m c 0 t) (iblk m c 1 t) (iblk m c 2 t) (iblk m c 3 t) (iblk m c 4 t) (iblk m c 5 t) (iblk m c 6 t) (ix2 i j)
      = cellNum (far (kP m c) (row t i) j) (dir (kP m c) (row t i) j) := by
  refine (kernel_cell _ _ _ _ _ _ _ i j).trans ?_
  rw [blk_x m c t i, blk_y m c t i, blk_xr m c t j, blk_yr m c t j]
  rfl

/-- The hidden states that the body loads are the staged ones. -/
theorem tile_hidden (j : Fin 1024) (k : Fin 65) :
    k0_pay128 (iblk m c 0 t) (iblk m c 1 t) (iblk m c 2 t) (iblk m c 3 t) (iblk m c 4 t) (iblk m c 5 t) (iblk m c 6 t) (ix2 j k)
      = if h : k.val < 64 then kH m c j ⟨k.val, h⟩ else (1 : EReal) := by
  refine Eq.trans ?_ (blk_h m c t j k)
  pointwise [k0_pay128, k0_pay9]

/-- The four products of a tile. -/
abbrev tileProds : Fin 4 → FVec Ideal S3072x65 .f32 :=
  prods (iblk m c 0 t) (iblk m c 1 t) (iblk m c 2 t) (iblk m c 3 t) (iblk m c 4 t) (iblk m c 5 t) (iblk m c 6 t)

/-- A product at a column: the sum, over the points in the cell, of that column of the staged hidden states. -/
theorem tile_sums (g : Fin 4) (k : Fin 12) (i : Fin 256) (d : Fin 65) :
    tileProds m c t g (ix2 ⟨256 * k.val + i.val, by omega⟩ d)
      = ∑ j : Fin 1024, hit (kP m c) (row t i) ⟨12 * g.val + k.val, by omega⟩ j
          * (if h : d.val < 64 then kH m c j ⟨d.val, h⟩ else (1 : EReal)) := by
  unfold tileProds
  rw [prods_eq, sums_apply]
  refine Finset.sum_congr rfl fun j _ => ?_
  rw [tile_cell, tile_hidden, word_val ⟨12 * g.val + k.val, by omega⟩]
  rfl

/-- A mean of a tile. -/
theorem tile_mean (k : Fin 48) (i : Fin 256) (d : Fin 64) :
    means (tileProds m c t) k (ix2 i d) = meanMul (kP m c) (kH m c) (row t i) k d := by
  have hk : (⟨12 * (⟨k.val / 12, by omega⟩ : Fin 4).val + (⟨k.val % 12, by omega⟩ : Fin 12).val, by omega⟩ : Fin 48) = k :=
    Fin.ext (by show 12 * (k.val / 12) + k.val % 12 = k.val; omega)
  unfold means
  rw [mean_apply, tile_sums, tile_sums, hk]
  unfold meanMul total count
  congr 1
  · refine Finset.sum_congr rfl fun j _ => ?_
    rw [dif_pos (show (⟨d.val, by omega⟩ : Fin 65).val < 64 from d.isLt)]
  · refine congrArg (fun q => Ideal.div 1 (max q 1)) (Finset.sum_congr rfl fun j _ => ?_)
    rw [dif_neg (by decide), mul_one]

/-- What grid point `t` writes at row `i` of its tile. -/
theorem tile_out (i : Fin 256) (n : Fin 64) :
    tile (tileProds m c t) (shapeCast S3072x64 (iblk m c 5 t) shapeCasts_S3072x64_S3072x64)
        (shapeCast S1x64 (iblk m c 6 t) shapeCasts_S1x64_S1x64) (ix2 i n)
      = layer (kW m c) (kB m c) (meanMul (kP m c) (kH m c)) (row t i) n := by
  have hw : ∀ f : Fin 3072, shapeCast S3072x64 (iblk m c 5 t) shapeCasts_S3072x64_S3072x64 (ix2 f n) = kW m c f n :=
    fun f => Eq.trans (by pointwise) (blk_w m c t f n)
  have hb : shapeCast S1x64 (iblk m c 6 t) shapeCasts_S1x64_S1x64 (ix2 0 n) = kB m c n :=
    Eq.trans (by pointwise) (blk_b m c t n)
  rw [tile_apply, hb]
  unfold layer
  refine congrArg (fun q => max (q + kB m c n) 0) (Finset.sum_congr rfl fun f _ => ?_)
  rw [tile_mean, hw]

/-- The result array after the run. -/
theorem array_after : (dats m 0 c).arrAt 7 cfg0.N
    = fun y => layer (kW m c) (kB m c) (meanMul (kP m c) (kH m c)) (y 0) (y 1) := by
  refine (dats m 0 c).arrAt_eq_of_covers 7 _ (by decide +kernel) fun t hf y => ?_
  blk_simp
  rw [after0_7, out_prods]
  frame_out
  have e0 : (((View.whole main_v13).slice (win0_7.rect t)).emb y 0 : Fin 1024) = row t (y 0) := by
    refine Fin.ext ?_
    show _ = 256 * t.val + (y 0).val
    blk_simp [idx t]
    omega
  have e1 : (((View.whole main_v13).slice (win0_7.rect t)).emb y 1 : Fin 64) = y 1 := by
    refine Fin.ext ?_
    blk_simp [idx t]
  rw [e0, e1]
  refine Eq.trans ?_ (tile_out m c t (y 0) (y 1))
  refine congrArg _ ?_
  exact (ix2_eta y).symm

end Cert.Pool
end
-- ==== Proof.Landing.lean ====
module
public import proofs.«01_k».proof.Proof.Gen.ReferenceIdeal.Run
public import Idealize.ShloMosaic.Lib.Routing.OpsPair
public import Idealize.ShloMosaic.Lib.Pointwise
@[expose] public section
set_option maxRecDepth 16384
/-!
# Where the reference's two scatters put an update

Update `e` carries one index word. The scatter of counts adds its number to the slot that the word names; the scatter of
hidden states adds its row to the row that the word names.
-/
noncomputable section
namespace Cert.Pool
open Cert.ReferenceIdeal Cert.ReferenceIdeal.Gen Idealize.ShloMosaic

/-- The dimension numbers of the scatter of hidden states. -/
abbrev dRows := scatter_S49153x64_S1048576x1_S1048576x64_1_0_0_1
/-- The dimension numbers of the scatter of counts. -/
abbrev dOnes := scatter_S49153_S1048576x1_S1048576_n_0_0_1

variable (idx : IVec S1048576x1 32) (e : Fin 1048576)

/-- Update `e` of the rows starts, on the first axis, at its index word. -/
theorem rows_start0 (x : Fin 64) : dRows.start (ix2 e x) idx 0 = (idx (ix2 e 0)).toInt := by
  unfold ScatterDims.start
  rw [dif_pos (by decide)]
  refine congrArg (fun q => (idx q).toInt) (funext fun b => ?_)
  match b with
  | 0 => rfl
  | 1 => rfl
/-- On the second axis it starts at zero. -/
theorem rows_start1 (x : Fin 64) : dRows.start (ix2 e x) idx 1 = 0 := by
  unfold ScatterDims.start
  rw [dif_neg (by decide)]
/-- Its window has no extent on the first axis. -/
theorem rows_window0 (x : Fin 64) : dRows.window (ix2 e x) 0 = 0 := rfl
/-- Its window runs along the second axis. -/
theorem rows_window1 (x : Fin 64) : dRows.window (ix2 e x) 1 = x.val := rfl

/-- Element `x` of update row `e` lands at element `y` of row `s` exactly when the word names `s` and `x` is `y`. -/
theorem rows_land (x y : Fin 64) (s : Fin 49153) :
    dRows.resultIdx? (ix2 e x) idx = some (ix2 s y) ↔ (idx (ix2 e 0)).toInt = (s.val : ℤ) ∧ x = y := by
  rw [Routing.resultIdx?_eq_some]
  constructor
  · intro h
    have h0 := h 0
    have h1 := h 1
    rw [rows_start0, rows_window0] at h0
    rw [rows_start1, rows_window1] at h1
    refine ⟨by simpa using h0, Fin.ext ?_⟩
    have : (0 : ℤ) + (x.val : ℤ) = (y.val : ℤ) := h1
    omega
  · rintro ⟨h, rfl⟩ a
    match a with
    | 0 => rw [rows_start0, rows_window0, h]; exact add_zero _
    | 1 => rw [rows_start1, rows_window1]; exact zero_add _

/-- Update `e` of the ones starts at its index word. -/
theorem ones_start : dOnes.start (ix1 e) idx 0 = (idx (ix2 e 0)).toInt := by
  unfold ScatterDims.start
  rw [dif_pos (by decide)]
  refine congrArg (fun q => (idx q).toInt) (funext fun b => ?_)
  match b with
  | 0 => rfl
  | 1 => rfl
/-- Its window has no extent. -/
theorem ones_window : dOnes.window (ix1 e) 0 = 0 := rfl

/-- Update `e` of the ones lands in slot `s` exactly when the word names `s`. -/
theorem ones_land (s : Fin 49153) :
    dOnes.resultIdx? (ix1 e) idx = some (ix1 s) ↔ (idx (ix2 e 0)).toInt = (s.val : ℤ) := by
  rw [Routing.resultIdx?_eq_some]
  constructor
  · intro h
    have h0 := h 0
    rw [ones_start, ones_window] at h0
    simpa using h0
  · intro h a
    match a with
    | 0 => rw [ones_start, ones_window, h]; exact add_zero _

/-- The scatter of hidden states at an element: what was there, plus that element of every update that names its row. -/
theorem rows_at (x0 : FVec Ideal S49153x64 .f32) (upd : FVec Ideal S1048576x64 .f32) (s : Fin 49153) (y : Fin 64) :
    Host.scatterAdd dRows x0 idx upd (ix2 s y)
      = x0 (ix2 s y) + ∑ e : Fin 1048576, if (idx (ix2 e 0)).toInt = (s.val : ℤ) then upd (ix2 e y) else (0 : EReal) := by
  show x0 (ix2 s y) + ∑ j ∈ Finset.univ.filter (fun j => dRows.resultIdx? j idx = some (ix2 s y)), upd j = _
  rw [Finset.sum_filter, sum_idx2]
  refine congrArg (x0 (ix2 s y) + ·) (Finset.sum_congr rfl fun e _ => ?_)
  rw [Finset.sum_eq_single y (fun x _ hx => if_neg fun h => hx ((rows_land idx e x y s).1 h).2) (fun h => absurd (Finset.mem_univ _) h)]
  refine if_congr ?_ rfl rfl
  rw [rows_land]
  exact and_iff_left rfl

/-- The scatter of counts at a slot: what was there, plus every update that names it. -/
theorem ones_at (x0 : FVec Ideal S49153 .f32) (upd : FVec Ideal S1048576 .f32) (s : Fin 49153) :
    Host.scatterAdd dOnes x0 idx upd (ix1 s)
      = x0 (ix1 s) + ∑ e : Fin 1048576, if (idx (ix2 e 0)).toInt = (s.val : ℤ) then upd (ix1 e) else (0 : EReal) := by
  show x0 (ix1 s) + ∑ j ∈ Finset.univ.filter (fun j => dOnes.resultIdx? j idx = some (ix1 s)), upd j = _
  rw [Finset.sum_filter, sum_idx1]
  exact congrArg (x0 (ix1 s) + ·) (Finset.sum_congr rfl fun e _ => if_congr (ones_land idx e s) rfl rfl)

end Cert.Pool
end
-- ==== Proof.RefArray.lean ====
module
public import proofs.«01_k».proof.Proof.Landing
public import proofs.«01_k».proof.Proof.CellAt
public import proofs.«01_k».proof.Proof.Pooled
public import Idealize.ShloMosaic.Lib.Pipeline.ValueKit
public import Idealize.ShloMosaic.Lib.Tactic.CleanTypes
public import Idealize.ShloMosaic.Lib.IdealHost
@[expose] public section
set_option maxRecDepth 16384
/-!
# The reference's result

The two scatters sum over all pairs of points; the pairs that name a slot are those of one row in one cell.
-/
noncomputable section
namespace Cert.Pool
open Cert.ReferenceIdeal Cert.ReferenceIdeal.Gen Cert.ReferenceIdeal.Value Idealize.ShloMosaic
variable (V : Valuation τ sig (Elt Ideal))

/-- The points, by row and coordinate. -/
def rP (i : Fin 1024) (x : Fin 2) : EReal := pts V (ix2 i x)
/-- The hidden states, as the reference's argument. -/
abbrev hid : Vec Ideal S1024x64 .f32 := V (Proc.tc.devRef main_arg1)
/-- The hidden states, by row and component. -/
def rH (i : Fin 1024) (d : Fin 64) : EReal := hid V (ix2 i d)
/-- The weights, as the reference's argument. -/
abbrev wts : Vec Ideal S3072x64 .f32 := V (Proc.tc.devRef main_arg2)
/-- The weights. -/
def rW (f : Fin 3072) (n : Fin 64) : EReal := wts V (ix2 f n)
/-- The bias, as the reference's argument. -/
abbrev bia : Vec Ideal S64 .f32 := V (Proc.tc.devRef main_arg3)
/-- The bias. -/
def rB (n : Fin 64) : EReal := bia V (ix1 n)

/-- The index word of a pair after the test for a negative index. -/
def slotWord (e : Fin 1048576) : BitVec 32 :=
  Scalar.select (IntOp.cmpi .slt (res_main_v70 V (ix1 e)) 0#32) (IntOp.addi (res_main_v70 V (ix1 e)) 49153#32) (res_main_v70 V (ix1 e))

/-- A small word passes the test for a negative index unchanged, and read signed it is its number. -/
theorem wrap_small (n : ℕ) (h : n < 2 ^ 31) (a : BitVec 32) :
    (Scalar.select (IntOp.cmpi .slt (BitVec.ofNat 32 n) 0#32) a (BitVec.ofNat 32 n)).toInt = (n : ℤ) := by
  have hn : (BitVec.ofNat 32 n).toNat = n := by rw [BitVec.toNat_ofNat]; omega
  rw [Routing.wrap_of_lt _ _ (by rw [hn]; exact h), WordCmp.toInt_eq_toNat_of_lt_half (by rw [hn]; exact h), hn]

/-- The pair at flat position `e` names slot `48 * i + k` exactly when it is in row `i` and cell `k`. -/
theorem slot_iff (e : Fin 1048576) (i : Fin 1024) (k : Fin 48) :
    (slotWord V e).toInt = ((i.val * 48 + k.val : ℕ) : ℤ)
      ↔ e.val / 1024 = i.val
        ∧ cellNum (far (rP V) ⟨e.val / 1024, by omega⟩ ⟨e.val % 1024, by omega⟩)
            (dir (rP V) ⟨e.val / 1024, by omega⟩ ⟨e.val % 1024, by omega⟩) = ((k.val : ℝ) : EReal) := by
  have hi := i.isLt
  have hk := k.isLt
  have he := e.isLt
  unfold slotWord
  rw [reference_cell]
  rcases cell_spec (off (pts V) ⟨e.val / 1024, by omega⟩ ⟨e.val % 1024, by omega⟩ 0)
    (off (pts V) ⟨e.val / 1024, by omega⟩ ⟨e.val % 1024, by omega⟩ 1) with h | ⟨k', hk', h⟩
  · rw [h.2, wrap_small 49152 (by norm_num)]
    constructor
    · intro q; omega
    · rintro ⟨_, q⟩
      have q' : ((48 : ℝ) : EReal) = ((k.val : ℝ) : EReal) := h.1.symm.trans q
      have : (48 : ℝ) = (k.val : ℝ) := by exact_mod_cast q'
      have : 48 = k.val := by exact_mod_cast this
      omega
  · rw [h.2, wrap_small _ (by omega)]
    constructor
    · intro q
      have q' : e.val / 1024 * 48 + k' = i.val * 48 + k.val := by exact_mod_cast q
      have : k' = k.val := by omega
      exact ⟨by omega, this ▸ h.1⟩
    · rintro ⟨q, q1⟩
      have q' : ((k' : ℝ) : EReal) = ((k.val : ℝ) : EReal) := h.1.symm.trans q1
      have : (k' : ℝ) = (k.val : ℝ) := by exact_mod_cast q'
      have : k' = k.val := by exact_mod_cast this
      rw [q, this]

/-- A sum over the pairs that name a slot is a sum over the points in that row's cell. -/
theorem sum_slot (i : Fin 1024) (k : Fin 48) (u : Fin 1048576 → EReal) :
    (∑ e : Fin 1048576, if (slotWord V e).toInt = ((i.val * 48 + k.val : ℕ) : ℤ) then u e else (0 : EReal))
      = ∑ j : Fin 1024, hit (rP V) i k j * u ⟨i.val * 1024 + j.val, by omega⟩ := by
  rw [← Fin.sum_mul_add_fin 1024 1024 (fun e => if (slotWord V e).toInt = ((i.val * 48 + k.val : ℕ) : ℤ) then u e else (0 : EReal))]
  rw [Finset.sum_eq_single i]
  · refine Finset.sum_congr rfl fun j _ => ?_
    have e1 : (⟨(i.val * 1024 + j.val) / 1024, by omega⟩ : Fin 1024) = i := Fin.ext (by show (i.val * 1024 + j.val) / 1024 = i.val; omega)
    have e2 : (⟨(i.val * 1024 + j.val) % 1024, by omega⟩ : Fin 1024) = j := Fin.ext (by show (i.val * 1024 + j.val) % 1024 = j.val; omega)
    have h := slot_iff V ⟨i.val * 1024 + j.val, by omega⟩ i k
    dsimp only at h
    rw [e1, e2] at h
    unfold hit
    rw [ite_mul, one_mul, zero_mul]
    refine if_congr (h.trans ?_) rfl rfl
    exact and_iff_right (by omega)
  · intro s _ hs
    refine Finset.sum_eq_zero fun j _ => if_neg fun q => hs ?_
    have h := ((slot_iff V _ i k).1 q).1
    exact Fin.ext (by have : (s.val * 1024 + j.val) / 1024 = i.val := h; omega)
  · intro h; exact absurd (Finset.mem_univ _) h

/-- The reference's counts. -/
theorem count_at (i : Fin 1024) (k : Fin 48) :
    res_main_v92 V (ix1 ⟨i.val * 48 + k.val, by omega⟩) = count (rP V) i k := by
  unfold res_main_v92
  clean_types
  pointwise
  refine (ones_at _ _ _ _).trans ?_
  pointwise
  refine (sum_slot V i k fun _ => 1).trans ?_
  unfold count
  simp only [mul_one]

/-- The scattered index words, by update. -/
def words : IVec S1048576x1 32 :=
  broadcastInDim S1048576x1 ![0] bcast_S1048576_S1048576x1_0 (select (cmpi .slt (res_main_v70 V) (broadcastInDim S1048576 ![] bcast_S_S1048576 (constantI S_ 32 0#32))) (addi (res_main_v70 V) (broadcastInDim S1048576 ![] bcast_S_S1048576 (constantI S_ 32 49153#32))) (res_main_v70 V))

/-- The scattered rows: the hidden states, once for each point. -/
def copies : FVec Ideal S1048576x64 .f32 :=
  shapeCast _ (broadcastInDim S1024x1024x64 ![0, 1, 2] bcast_S1x1024x64_S1024x1024x64_0_1_2 (broadcastInDim S1x1024x64 ![1, 2] bcast_S1024x64_S1x1024x64_1_2 (hid V))) shapeCasts_S1024x1024x64_S1048576x64

/-- The word of update `e`. -/
theorem words_at (e : Fin 1048576) : words V (ix2 e 0) = slotWord V e := by
  unfold words slotWord
  pointwise

/-- The row of update `e`: the hidden state of its column's point. -/
theorem copies_at (e : Fin 1048576) (d : Fin 64) : copies V (ix2 e d) = rH V ⟨e.val % 1024, by omega⟩ d := by
  unfold copies rH
  pointwise

/-- The reference's sums. -/
theorem total_at (i : Fin 1024) (k : Fin 48) (d : Fin 64) :
    Host.scatterAdd scatter_S49153x64_S1048576x1_S1048576x64_1_0_0_1
        (broadcastInDim S49153x64 ![] bcast_S_S49153x64 (constant S_ .f32 0x00000000#32)) (words V) (copies V)
        (ix2 ⟨i.val * 48 + k.val, by omega⟩ d) = total (rP V) (rH V) i k d := by
  refine (rows_at _ _ _ _ _).trans ?_
  simp only [words_at, copies_at]
  rw [sum_slot V i k fun e => rH V ⟨e.val % 1024, by omega⟩ d]
  have z : broadcastInDim S49153x64 ![] bcast_S_S49153x64 (constant (F := Ideal) S_ .f32 0x00000000#32)
      (ix2 ⟨i.val * 48 + k.val, by omega⟩ d) = (0 : EReal) := by pointwise
  refine (congrArg₂ (· + ·) z rfl).trans ((zero_add _).trans ?_)
  unfold total
  refine Finset.sum_congr rfl fun j _ => ?_
  have e2 : (⟨(i.val * 1024 + j.val) % 1024, by omega⟩ : Fin 1024) = j := Fin.ext (by show (i.val * 1024 + j.val) % 1024 = j.val; omega)
  dsimp only
  rw [e2]

/-- The reference's result as its run states it. -/
def refOut : FVec Ideal S1024x64 .f32 :=
  maximumf (addf (Host.dotGeneral (φ₂ := .f32) dot_S1024x3072_S3072x64_S1024x64_1_0_0_1_n_n none (shapeCast _ (select (broadcastInDim S49152x64 ![0, 1] bcast_S49152x1_S49152x64_0_1 (cmpf .ogt (broadcastInDim S49152x1 ![0] bcast_S49152_S49152x1_0 (res_main_v92 V)) (broadcastInDim S49152x1 ![] bcast_S_S49152x1 (constant S_ .f32 0x00000000#32)))) (Host.divf (extractStridedSlice S49152x64 ![0, 0] (Host.scatterAdd scatter_S49153x64_S1048576x1_S1048576x64_1_0_0_1 (broadcastInDim S49153x64 ![] bcast_S_S49153x64 (constant S_ .f32 0x00000000#32)) (broadcastInDim S1048576x1 ![0] bcast_S1048576_S1048576x1_0 (select (cmpi .slt (res_main_v70 V) (broadcastInDim S1048576 ![] bcast_S_S1048576 (constantI S_ 32 0#32))) (addi (res_main_v70 V) (broadcastInDim S1048576 ![] bcast_S_S1048576 (constantI S_ 32 49153#32))) (res_main_v70 V))) (shapeCast _ (broadcastInDim S1024x1024x64 ![0, 1, 2] bcast_S1x1024x64_S1024x1024x64_0_1_2 (broadcastInDim S1x1024x64 ![1, 2] bcast_S1024x64_S1x1024x64_1_2 (hid V))) shapeCasts_S1024x1024x64_S1048576x64)) slices_S49153x64_S49152x64_0_0) (broadcastInDim S49152x64 ![0, 1] bcast_S49152x1_S49152x64_0_1 (broadcastInDim S49152x1 ![0] bcast_S49152_S49152x1_0 (maximumf (res_main_v92 V) (broadcastInDim S49152 ![] bcast_S_S49152 (constant S_ .f32 0x3F800000#32)))))) (broadcastInDim S49152x64 ![] bcast_S_S49152x64 (id (constant S_ .f32 0x00000000#32)))) shapeCasts_S49152x64_S1024x3072) (wts V)) (broadcastInDim S1024x64 ![0, 1] bcast_S1x64_S1024x64_0_1 (broadcastInDim S1x64 ![1] bcast_S64_S1x64_1 (bia V)))) (broadcastInDim S1024x64 ![] bcast_S_S1024x64 (constant S_ .f32 0x00000000#32))

/-- The reference's result at an element. -/
theorem refOut_at (i : Fin 1024) (n : Fin 64) :
    refOut V (ix2 i n) = layer (rW V) (rB V) (meanDiv (rP V) (rH V)) i n := by
  unfold refOut
  clean_types
  pointwise
  unfold layer
  refine congrArg (fun q => max (q + rB V n) 0) (Finset.sum_congr rfl fun f _ => ?_)
  refine congrArg (· * rW V f n) ?_
  have e0 : (id (constant (F := Ideal) S_ FTy.f32 0#32) ix0 : EReal) = 0 := by
    show Ideal.ofBits .f32 0#32 = 0
    simp
  have ec := count_at V i ⟨f.val / 64, by omega⟩
  have et := total_at V i ⟨f.val / 64, by omega⟩ ⟨f.val % 64, by omega⟩
  unfold words copies at et
  dsimp only at ec et
  rw [e0, ec, et]
  rfl

end Cert.Pool
end
-- ==== Proof.Equation.lean ====
module
public import proofs.«01_k».proof.Proof.KernelArray
public import proofs.«01_k».proof.Proof.RefArray
@[expose] public section
/-!
# The equation between the two results

From equal arguments the kernel's result array and the reference's result are the same dense layer over the same means.
-/
noncomputable section
namespace Cert.Pool
open Idealize.ShloMosaic Idealize.ShloMosaic.TcCoe

/-- From equal arguments the kernel's result array is the reference's result. -/
theorem array_eq_refOut
    (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h0 : pts V = argP m c) (h1 : hid V = argH m c) (h2 : wts V = argW m c) (h3 : bia V = argB m c) :
    (Cert.KernelIdeal.Gen.dats m 0 c).arrAt 7 Cert.KernelIdeal.cfg0.N = refOut V := by
  have eP : rP V = kP m c := by funext i x; simp only [rP, kP, h0]
  have eH : rH V = kH m c := by funext i d; simp only [rH, kH, h1]
  have eW : rW V = kW m c := by funext f n; simp only [rW, kW, h2]
  have eB : rB V = kB m c := by funext n; simp only [rB, kB, h3]
  rw [array_after]
  funext y
  have hy := refOut_at V (y 0) (y 1)
  rw [eP, eH, eW, eB] at hy
  rw [eq_ix2 y]
  refine Eq.trans ?_ hy.symm
  have hm : meanMul (kP m c) (kH m c) = meanDiv (kP m c) (kH m c) := by
    funext i k d; exact mean_same _ _ i k d
  rw [hm]
  rfl

end Cert.Pool
end
-- ==== Proof.lean ====
/-
The proof of the certificate: the three frames, the named constants, and the equality of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equation
public import Idealize.ShloMosaic.Adequacy
public import Idealize.ShloMosaic.Lib.Claim
public import Idealize.ShloMosaic.Init

@[expose] public section

noncomputable section

namespace Cert.Proof

open Idealize.ShloMosaic Idealize.SL.Sem

/-- The reference runs, keeps its arguments, and leaves every counter at zero. -/
theorem reference_frame : Cert.quiescent_ReferenceIdeal (hReferenceIdeal := Cert.ReferenceIdeal.Gen.facts) := by
  intro m g _
  refine (θ_run Cert.ReferenceIdeal.defs _ _).mono (fun r h => ⟨fun c => (h c).2, ?_⟩) (Cert.ReferenceIdeal.Value.run m g)
  exact sem_eq_zero_of_no_sems (by decide) r.2

/-- Each named constant of the kernel is the real number that its rounded literal stands for. -/
theorem constants : Cert.preserves_Kernel_KernelIdeal :=
  ⟨IdealRules.named_const.statement Cert.KernelIdeal.κ "rmin" .f32 0x3DCCCCCD#32 ((1 / 10 : ℝ) : EReal) rfl,
   IdealRules.named_const.statement Cert.KernelIdeal.κ "log100" .f32 0x40935D8E#32 ((Real.log 100 : ℝ) : EReal) rfl,
   IdealRules.named_const.statement Cert.KernelIdeal.κ "twopi" .f32 0x40C90FDB#32 ((2 * Real.pi : ℝ) : EReal) rfl⟩

/-- From memories that agree on the arguments both programs run and end with the same result. -/
theorem results_agree : Cert.algebraic_KernelIdeal_ReferenceIdeal
    (hKernelIdeal := Cert.KernelIdeal.Gen.facts) (hReferenceIdeal := Cert.ReferenceIdeal.Gen.facts) := by
  intro m g m' g' _ hagree
  refine ⟨fun c => (Cert.KernelIdeal.Gen.dats m 0 c).arrAt 7 Cert.KernelIdeal.cfg0.N,
    Cert.KernelIdeal.Value.run_blocks m g,
    (θ_run Cert.ReferenceIdeal.defs _ _).mono (fun r h c => ⟨(h c).1.trans ?_, (h c).2⟩)
      (Cert.ReferenceIdeal.Value.run m' g')⟩
  obtain ⟨h0, h1, h2, h3⟩ := hagree c
  exact (Cert.Pool.array_eq_refOut m c (StableHlo.launchContents m' c) h0 h1 h2 h3).symm

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    reference_frame, constants, results_agree⟩

end Cert.Proof

end
